-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x7168 : Shape := ⟨3, ![3, 256, 7168]⟩
abbrev S3584x36864 : Shape := ⟨2, ![3584, 36864]⟩
abbrev S56x36864 : Shape := ⟨2, ![56, 36864]⟩
abbrev S768x7168 : Shape := ⟨2, ![768, 7168]⟩
abbrev S768x36864 : Shape := ⟨2, ![768, 36864]⟩
abbrev S3584x2048 : Shape := ⟨2, ![3584, 2048]⟩
abbrev S56x2048 : Shape := ⟨2, ![56, 2048]⟩
abbrev S768x2048 : Shape := ⟨2, ![768, 2048]⟩
abbrev S3584x512 : Shape := ⟨2, ![3584, 512]⟩
abbrev S28x512 : Shape := ⟨2, ![28, 512]⟩
abbrev S28x128x512 : Shape := ⟨3, ![28, 128, 512]⟩
abbrev S28x1x512 : Shape := ⟨3, ![28, 1, 512]⟩
abbrev S768x3584 : Shape := ⟨2, ![768, 3584]⟩
abbrev S768x512 : Shape := ⟨2, ![768, 512]⟩
abbrev S3x256x36864 : Shape := ⟨3, ![3, 256, 36864]⟩

abbrev nBuf : Space → Nat
  | .hbm => 6
  | .vmem => 7
  | .smem => 0
  | _ => 0

abbrev bufTy : (tb : Table) → Fin (tcTables nBuf tb) → BufTy
  | .hbm, ⟨0, _⟩ => ⟨S3x256x7168, .bf16⟩
  | .hbm, ⟨1, _⟩ => ⟨S3584x36864, .i8⟩
  | .hbm, ⟨2, _⟩ => ⟨S56x36864, .bf16⟩
  | .hbm, ⟨3, _⟩ => ⟨S768x7168, .bf16⟩
  | .hbm, ⟨4, _⟩ => ⟨S768x36864, .bf16⟩
  | .hbm, ⟨5, _⟩ => ⟨S3x256x36864, .bf16⟩
  | .local _ .vmem, ⟨0, _⟩ => ⟨S768x7168, .bf16⟩
  | .local _ .vmem, ⟨1, _⟩ => ⟨S3584x2048, .i8⟩
  | .local _ .vmem, ⟨2, _⟩ => ⟨S3584x2048, .i8⟩
  | .local _ .vmem, ⟨3, _⟩ => ⟨S56x2048, .bf16⟩
  | .local _ .vmem, ⟨4, _⟩ => ⟨S56x2048, .bf16⟩
  | .local _ .vmem, ⟨5, _⟩ => ⟨S768x2048, .bf16⟩
  | .local _ .vmem, ⟨6, _⟩ => ⟨S768x2048, .bf16⟩
  | _, _ => ⟨S3x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S3x256x7168 : Shape := ⟨3, ![3, 256, 7168]⟩
abbrev S3584x36864 : Shape := ⟨2, ![3584, 36864]⟩
abbrev S56x36864 : Shape := ⟨2, ![56, 36864]⟩
abbrev S_ : Shape := ⟨0, ![]⟩
abbrev S28x36864 : Shape := ⟨2, ![28, 36864]⟩
abbrev S28x128x36864 : Shape := ⟨3, ![28, 128, 36864]⟩
abbrev S28x1x36864 : Shape := ⟨3, ![28, 1, 36864]⟩
abbrev S3x256x3584 : Shape := ⟨3, ![3, 256, 3584]⟩
abbrev S3x256x36864 : Shape := ⟨3, ![3, 256, 36864]⟩

abbrev nBuf : Space → Nat
  | .hbm => 36
  | .vmem => 0
  | .smem => 0
  | _ => 0

abbrev bufTy : (tb : Table) → Fin (tcTables nBuf tb) → BufTy
  | .hbm, ⟨0, _⟩ => ⟨S3x256x7168, .bf16⟩
  | .hbm, ⟨1, _⟩ => ⟨S3584x36864, .i8⟩
  | .hbm, ⟨2, _⟩ => ⟨S56x36864, .bf16⟩
  | .hbm, ⟨3, _⟩ => ⟨S3584x36864, .i32⟩
  | .hbm, ⟨4, _⟩ => ⟨S_, .i32⟩
  | .hbm, ⟨5, _⟩ => ⟨S3584x36864, .i32⟩
  | .hbm, ⟨6, _⟩ => ⟨S3584x36864, .i32⟩
  | .hbm, ⟨7, _⟩ => ⟨S_, .i32⟩
  | .hbm, ⟨8, _⟩ => ⟨S3584x36864, .i32⟩
  | .hbm, ⟨9, _⟩ => ⟨S3584x36864, .i32⟩
  | .hbm, ⟨10, _⟩ => ⟨S28x36864, .bf16⟩
  | .hbm, ⟨11, _⟩ => ⟨S3584x36864, .bf16⟩
  | .hbm, ⟨12, _⟩ => ⟨S_, .bf16⟩
  | .hbm, ⟨13, _⟩ => ⟨S3584x36864, .bf16⟩
  | .hbm, ⟨14, _⟩ => ⟨S3584x36864, .bf16⟩
  | .hbm, ⟨15, _⟩ => ⟨S28x128x36864, .bf16⟩
  | .hbm, ⟨16, _⟩ => ⟨S28x1x36864, .bf16⟩
  | .hbm, ⟨17, _⟩ => ⟨S28x128x36864, .bf16⟩
  | .hbm, ⟨18, _⟩ => ⟨S28x128x36864, .bf16⟩
  | .hbm, ⟨19, _⟩ => ⟨S3584x36864, .bf16⟩
  | .hbm, ⟨20, _⟩ => ⟨S28x36864, .bf16⟩
  | .hbm, ⟨21, _⟩ => ⟨S3584x36864, .bf16⟩
  | .hbm, ⟨22, _⟩ => ⟨S_, .bf16⟩
  | .hbm, ⟨23, _⟩ => ⟨S3584x36864, .bf16⟩
  | .hbm, ⟨24, _⟩ => ⟨S3584x36864, .bf16⟩
  | .hbm, ⟨25, _⟩ => ⟨S28x128x36864, .bf16⟩
  | .hbm, ⟨26, _⟩ => ⟨S28x1x36864, .bf16⟩
  | .hbm, ⟨27, _⟩ => ⟨S28x128x36864, .bf16⟩
  | .hbm, ⟨28, _⟩ => ⟨S28x128x36864, .bf16⟩
  | .hbm, ⟨29, _⟩ => ⟨S3584x36864, .bf16⟩
  | .hbm, ⟨30, _⟩ => ⟨S3x256x3584, .bf16⟩
  | .hbm, ⟨31, _⟩ => ⟨S3x256x36864, .f32⟩
  | .hbm, ⟨32, _⟩ => ⟨S3x256x3584, .bf16⟩
  | .hbm, ⟨33, _⟩ => ⟨S3x256x36864, .f32⟩
  | .hbm, ⟨34, _⟩ => ⟨S3x256x36864, .f32⟩
  | .hbm, ⟨35, _⟩ => ⟨S3x256x36864, .bf16⟩
  | _, _ => ⟨S3x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Layer.lean ====
/-
The linear layer in plain mathematics, over the extended reals: what one packed byte holds, the weight it stands for, and one
element of the output. Nothing here mentions a program's run.
-/
module

public import Idealize.ShloMosaic.Lib.Pointwise

@[expose] public section

set_option maxRecDepth 16384

noncomputable section

namespace Cert.Layer

open Idealize.ShloMosaic

/-- The code in the low four bits of a packed byte. -/
def loCode (b : BitVec 8) : ℕ := b.toNat % 16

/-- The code in the high four bits of a packed byte. -/
def hiCode (b : BitVec 8) : ℕ := b.toNat / 16

/-- The weight a four-bit code stands for: the code less the zero point eight, times the scale of its group. -/
def weight (code : ℕ) (scale : EReal) : EReal := ((((code : ℝ) : EReal)) - (((8 : ℝ) : EReal))) * scale

/-- Masking a byte with 15 leaves its low code. -/
theorem and_toNat (b : BitVec 8) : (b &&& 15#8).toNat = loCode b := by
  revert b; unfold loCode; decide +kernel

/-- The kernel's high code: the byte widened to 32 bits, shifted right by four and narrowed back to a byte. -/
theorem shift_toNat (b : BitVec 8) : (((b.setWidth 32).sshiftRight 4).setWidth 8).toNat = hiCode b := by
  revert b; unfold hiCode; decide +kernel

/-- The reference's low code: the byte widened to 32 bits and masked, read as a signed number. -/
theorem and_toInt (b : BitVec 8) : ((b.setWidth 32) &&& 15#32).toInt = (loCode b : ℤ) := by
  revert b; unfold loCode; decide +kernel

/-- The reference's high code: the byte widened to 32 bits and shifted, read as a signed number. -/
theorem shift_toInt (b : BitVec 8) : ((b.setWidth 32).sshiftRight 4).toInt = (hiCode b : ℤ) := by
  revert b; unfold hiCode; decide +kernel

/-- The zero point's bfloat16 pattern is the number eight. -/
theorem eight : (Ideal.ofBits .bf16 0x4100#16 : EReal) = ((8 : ℝ) : EReal) := by
  have h : (128 : ℝ) * (2 ^ 4)⁻¹ = 8 := by norm_num
  simp [Ideal.ofBits, Ideal.ieee, ← EReal.coe_mul, h]

/-- The kernel's arithmetic on the low four bits of a byte is the weight of the low code. -/
theorem kernel_lo (b : BitVec 8) (s : EReal) :
    ((FloatOps.uitofp (F := Ideal) .bf16 (IntOp.andi b 15#8) : EReal) - Ideal.ofBits .bf16 0x4100#16) * s
      = weight (loCode b) s := by
  rw [eight, weight, ← and_toNat]; rfl

/-- The kernel's arithmetic on the high four bits of a byte is the weight of the high code. -/
theorem kernel_hi (b : BitVec 8) (s : EReal) :
    ((FloatOps.uitofp (F := Ideal) .bf16
        (BitVec.setWidth 8 (IntOp.shrsi ArithUnit.vector (BitVec.setWidth 32 b) 4#32)) : EReal)
      - Ideal.ofBits .bf16 0x4100#16) * s = weight (hiCode b) s := by
  rw [eight, weight, ← shift_toNat]; rfl

/-- The reference's arithmetic on the low four bits of a byte is the weight of the low code. -/
theorem reference_lo (b : BitVec 8) (s : EReal) :
    ((FloatOps.sitofp (F := Ideal) .bf16 (IntOp.andi (BitVec.setWidth 32 b) 15#32) : EReal)
      - Ideal.ofBits .bf16 0x4100#16) * s = weight (loCode b) s := by
  have h : (FloatOps.sitofp (F := Ideal) .bf16 (IntOp.andi (BitVec.setWidth 32 b) 15#32) : EReal)
      = (((((b.setWidth 32) &&& 15#32).toInt : ℤ) : ℝ) : EReal) := rfl
  rw [eight, weight, h, and_toInt, Int.cast_natCast]

/-- The reference's arithmetic on the high four bits of a byte is the weight of the high code. -/
theorem reference_hi (b : BitVec 8) (s : EReal) :
    ((FloatOps.sitofp (F := Ideal) .bf16 (IntOp.shrsi ArithUnit.host (BitVec.setWidth 32 b) 4#32) : EReal)
      - Ideal.ofBits .bf16 0x4100#16) * s = weight (hiCode b) s := by
  have h : (FloatOps.sitofp (F := Ideal) .bf16 (IntOp.shrsi ArithUnit.host (BitVec.setWidth 32 b) 4#32) : EReal)
      = (((((b.setWidth 32).sshiftRight 4).toInt : ℤ) : ℝ) : EReal) := rfl
  rw [eight, weight, h, shift_toInt, Int.cast_natCast]

/-- The layer: element (b, t, n) of the output is the first half of row (b, t) of the activations against column n of the
low-code weights, plus its second half against column n of the high-code weights. Row k of either half takes its scale from
row k / 128 of that half's scales. -/
def layer (x : FVec Ideal ⟨3, ![3, 256, 7168]⟩ .bf16) (w : IVec ⟨2, ![3584, 36864]⟩ 8)
    (s : FVec Ideal ⟨2, ![56, 36864]⟩ .bf16) : FVec Ideal ⟨3, ![3, 256, 36864]⟩ .bf16 := fun i =>
  ((∑ k : Fin 3584, (x (ix3 (i 0) (i 1) ⟨k.val, by omega⟩) : EReal)
        * weight (loCode (w (ix2 k (i 2)))) (s (ix2 ⟨k.val / 128, by omega⟩ (i 2))))
    + ∑ k : Fin 3584, (x (ix3 (i 0) (i 1) ⟨3584 + k.val, by omega⟩) : EReal)
        * weight (hiCode (w (ix2 k (i 2)))) (s (ix2 ⟨28 + k.val / 128, by omega⟩ (i 2))) : EReal)

end Cert.Layer

end
-- ==== Proof.Block.lean ====
/-
What one store of the kernel's body writes: 512 columns of a tile's product, read at one element. The body does the same
arithmetic for its four groups of 512 columns, so the four stored values are one formula over different loads.
-/
module

public import proofs.«01_k».proof.Proof.Gen.KernelIdeal.Frame
public import proofs.«01_k».proof.Proof.Layer
public import Idealize.ShloMosaic.Lib.Pipeline.ValueKit

@[expose] public section

set_option maxRecDepth 16384

noncomputable section

namespace Cert.KernelIdeal.Value

open Idealize.ShloMosaic Idealize.ShloMosaic.TcCoe
open Cert.KernelIdeal Cert.KernelIdeal.Gen Cert.Layer

/-- One element of a group of 512 columns: the row's first half against the weights of the low codes, plus its second half
against the weights of the high codes; 128 consecutive rows of weights share one row of scales. -/
def chunk (w : Vec Ideal S3584x512 .i8) (s0 s1 : Vec Ideal S28x512 .bf16) (xa xb : Vec Ideal S768x3584 .bf16)
    (r : Fin 768) (l : Fin 512) : EReal :=
  (∑ k : Fin 3584, xa (ix2 r k) * weight (loCode (w (ix2 k l))) (s0 (ix2 ⟨k.val / 128, by omega⟩ l)))
    + ∑ k : Fin 3584, xb (ix2 r k) * weight (hiCode (w (ix2 k l))) (s1 (ix2 ⟨k.val / 128, by omega⟩ l))

/-- The value stored in the tile's first group of columns. -/
theorem group0 (w : Vec Ideal S3584x512 .i8) (s0 s1 : Vec Ideal S28x512 .bf16) (xa xb : Vec Ideal S768x3584 .bf16)
    (i : S768x512.Idx) :
    k0_pay2 (F := Ideal) w s0 s1 xa xb i = chunk w s0 s1 xa xb (i 0) (i 1) := by
  idx_vars i
  pointwise [k0_pay2]
  simp only [kernel_lo, kernel_hi, chunk]

/-- The value stored in the tile's second group of columns. -/
theorem group1 (w : Vec Ideal S3584x512 .i8) (s0 s1 : Vec Ideal S28x512 .bf16) (xa xb : Vec Ideal S768x3584 .bf16)
    (i : S768x512.Idx) :
    k0_pay4 (F := Ideal) w (k0_pay3 (F := Ideal) w) s0 s1 xa xb i = chunk w s0 s1 xa xb (i 0) (i 1) := by
  idx_vars i
  pointwise [k0_pay4, k0_pay3]
  simp only [kernel_lo, kernel_hi, chunk]

/-- The value stored in the tile's third group of columns. -/
theorem group2 (w : Vec Ideal S3584x512 .i8) (s0 s1 : Vec Ideal S28x512 .bf16) (xa xb : Vec Ideal S768x3584 .bf16)
    (i : S768x512.Idx) :
    k0_pay6 (F := Ideal) w s0 (k0_pay5 (F := Ideal) w) s1 xa xb i = chunk w s0 s1 xa xb (i 0) (i 1) := by
  idx_vars i
  pointwise [k0_pay6, k0_pay5]
  simp only [kernel_lo, kernel_hi, chunk]

/-- The value stored in the tile's last group of columns. -/
theorem group3 (w : Vec Ideal S3584x512 .i8) (s0 s1 : Vec Ideal S28x512 .bf16) (xa xb : Vec Ideal S768x3584 .bf16)
    (i : S768x512.Idx) :
    k0_pay1 (F := Ideal) (k0_pay7 (F := Ideal) w s0) (k0_pay8 (F := Ideal) w) 4#32 s1 xa xb i = chunk w s0 s1 xa xb (i 0) (i 1) := by
  idx_vars i
  pointwise [k0_pay1, k0_pay7, k0_pay8]
  simp only [kernel_lo, kernel_hi, chunk]

end Cert.KernelIdeal.Value

end
-- ==== Proof.Array.lean ====
/-
What the kernel's output array holds when every tile has been written back: each element is a row of the activations against a
column of the weights.
-/
module

public import proofs.«01_k».proof.Proof.Block

@[expose] public section

set_option maxRecDepth 16384

noncomputable section

namespace Cert.KernelIdeal.Value

open Idealize.ShloMosaic Idealize.ShloMosaic.TcCoe
open Idealize.ShloMosaic.Pipeline (Dat)
open Cert.KernelIdeal Cert.KernelIdeal.Gen Cert.Layer

/-- The product on 768 rows: element (r, n) is row r of the activations against column n of the unpacked weights. -/
def product (x : Vec Ideal S768x7168 .bf16) (w : Vec Ideal S3584x36864 .i8) (s : Vec Ideal S56x36864 .bf16) :
    Vec Ideal S768x36864 .bf16 := fun i =>
  ((∑ k : Fin 3584, (x (ix2 (i 0) ⟨k.val, by omega⟩) : EReal)
        * weight (loCode (w (ix2 k (i 1)))) (s (ix2 ⟨k.val / 128, by omega⟩ (i 1))))
    + ∑ k : Fin 3584, (x (ix2 (i 0) ⟨3584 + k.val, by omega⟩) : EReal)
        * weight (hiCode (w (ix2 k (i 1)))) (s (ix2 ⟨28 + k.val / 128, by omega⟩ (i 1))) : EReal)

variable (m : (ℓ : Loc nD τ sig) → Buf (Elt Ideal) ℓ)

/-- Where each window's block lies at grid point `t`. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- A group's element is the product's element at `i` when the group's loads read the arrays at the row and the column of `i`. -/
theorem chunk_eq (x : Vec Ideal S768x7168 .bf16) (w : Vec Ideal S3584x36864 .i8) (s : Vec Ideal S56x36864 .bf16)
    (i : S768x36864.Idx) (r : Fin 768) (l : Fin 512)
    (bw : Vec Ideal S3584x512 .i8) (bs0 bs1 : Vec Ideal S28x512 .bf16) (bxa bxb : Vec Ideal S768x3584 .bf16)
    (hw : ∀ k : Fin 3584, bw (ix2 k l) = w (ix2 k (i 1)))
    (hs0 : ∀ g : Fin 28, bs0 (ix2 g l) = s (ix2 ⟨g.val, by omega⟩ (i 1)))
    (hs1 : ∀ g : Fin 28, bs1 (ix2 g l) = s (ix2 ⟨28 + g.val, by omega⟩ (i 1)))
    (hxa : ∀ k : Fin 3584, bxa (ix2 r k) = x (ix2 (i 0) ⟨k.val, by omega⟩))
    (hxb : ∀ k : Fin 3584, bxb (ix2 r k) = x (ix2 (i 0) ⟨3584 + k.val, by omega⟩)) :
    chunk bw bs0 bs1 bxa bxb r l = product x w s i := by
  unfold chunk product
  simp only [hw, hs0, hs1, hxa, hxb]

set_option maxHeartbeats 1600000 in
/-- What the body leaves at element `y` of the output tile of grid point `t` is the product at the element of the array that
`y` is written to. -/
theorem point (c : Dev nD) (t : Fin cfg0.N) (y) :
    out0_3 (F := Ideal) (iblk m c 0 t) (iblk m c 1 t) (iblk m c 2 t) y
      = product (V m c main_v0) (V m c main_arg1) (V m c main_arg2) (((cfg0.win 3).blk t).view.emb y) := by
  canon_tiles x h
  · refine (group3 _ _ _ _ _ x).trans (chunk_eq _ _ _ _ _ _ _ _ _ _ _ ?_ ?_ ?_ ?_ ?_) <;> intro k <;> pointwise
      <;> blk_ext [iblk, idx t]
  · refine (group2 _ _ _ _ _ x).trans (chunk_eq _ _ _ _ _ _ _ _ _ _ _ ?_ ?_ ?_ ?_ ?_) <;> intro k <;> pointwise
      <;> blk_ext [iblk, idx t]
  · refine (group1 _ _ _ _ _ x).trans (chunk_eq _ _ _ _ _ _ _ _ _ _ _ ?_ ?_ ?_ ?_ ?_) <;> intro k <;> pointwise
      <;> blk_ext [iblk, idx t]
  · refine (group0 _ _ _ _ _ x).trans (chunk_eq _ _ _ _ _ _ _ _ _ _ _ ?_ ?_ ?_ ?_ ?_) <;> intro k <;> pointwise
      <;> blk_ext [iblk, idx t]

/-- The output array after the run is the product. -/
theorem final (c : Dev nD) : (dats m 0 c).arrAt 3 (cfgs 0).N
    = product (V m c main_v0) (m ((c : Thread nD τ).loc main_arg1)) (m ((c : Thread nD τ).loc main_arg2)) := by
  refine (dats m 0 c).arrAt_eq_of_covers 3 _ (by decide +kernel) fun t hf y => ?_
  blk_simp
  rw [after0_3]
  exact point m c t y

end Cert.KernelIdeal.Value

end
-- ==== Proof.KernelValue.lean ====
/-
The kernel's result when the whole program has ended: the activations enter as 768 rows, the product's rows leave as three
batches of 256, and the array returned is the layer.
-/
module

public import proofs.«01_k».proof.Proof.Array

@[expose] public section

set_option maxRecDepth 16384

noncomputable section

namespace Cert.KernelIdeal.Value

open Idealize.ShloMosaic Idealize.ShloMosaic.TcCoe
open Cert.KernelIdeal Cert.KernelIdeal.Gen Cert.Layer

variable (m : (ℓ : Loc nD τ sig) → Buf (Elt Ideal) ℓ)

/-- Splitting the product's rows into batches gives the layer, when the product's activations are the layer's with their
batches joined into rows. -/
theorem batches (x : Vec Ideal S3x256x7168 .bf16) (w : Vec Ideal S3584x36864 .i8) (s : Vec Ideal S56x36864 .bf16) :
    shapeCast S3x256x36864 (product (shapeCast S768x7168 x shapeCasts_S3x256x7168_S768x7168) w s)
      shapeCasts_S768x36864_S3x256x36864 = layer x w s := by
  funext i
  pointwise [product, layer]

/-- The array the program returns is the layer of its arguments. -/
theorem result (c : Dev nD) : Pipeline.afterTail₀ cfgs (dats m) 0 (V0 m) [hostOps1] c main_v2
    = layer (m ((c : Thread nD τ).loc main_arg0)) (m ((c : Thread nD τ).loc main_arg1))
        (m ((c : Thread nD τ).loc main_arg2)) := by
  rw [← batches]
  have h : Pipeline.withArrays (cfgs 0).spec c (V0 m c) (fun w => (dats m 0 c).arrAt w (cfgs 0).N) (Proc.devRef .tc main_v1)
      = (dats m 0 c).arrAt 3 (cfgs 0).N :=
    Pipeline.withArrays_arr (cfgs 0).spec (by decide) c (V0 m c) (fun w => (dats m 0 c).arrAt w (cfgs 0).N) 3
  have hx : V m c main_v0 = shapeCast S768x7168 (m ((c : Thread nD τ).loc main_arg0)) shapeCasts_S3x256x7168_S768x7168 := by
    show StableHlo.after hostOps0 (fun b => m (c, b)) (Proc.devRef .tc main_v0) = _
    unfold hostOps0
    after_results
    rfl
  show StableHlo.after hostOps1 _ (Proc.devRef .tc main_v2) = _
  unfold hostOps1
  after_results
  rw [h, final m c, hx]
  rfl

end Cert.KernelIdeal.Value

end
-- ==== Proof.ReferenceValue.lean ====
/-
What the reference computes, read at one element: the layer.
-/
module

public import proofs.«01_k».proof.Proof.Gen.ReferenceIdeal
public import proofs.«01_k».proof.Proof.Layer

@[expose] public section

set_option maxRecDepth 16384

noncomputable section

namespace Cert.ReferenceIdeal.Value

open Idealize.ShloMosaic
open Cert.ReferenceIdeal Cert.ReferenceIdeal.Gen Cert.Layer

/-- The reference's weights from one field of the packed bytes: the codes converted, less eight, times their group's scales. -/
abbrev dequant (codes : IVec S3584x36864 32) (s : FVec Ideal S28x36864 .bf16) : FVec Ideal S3584x36864 .bf16 :=
  shapeCast S3584x36864
    (mulf
      (shapeCast S28x128x36864
        (subf (sitofp .bf16 codes) (broadcastInDim S3584x36864 ![] bcast_S_S3584x36864 (constant S_ .bf16 0x4100#16)))
        shapeCasts_S3584x36864_S28x128x36864)
      (broadcastInDim S28x128x36864 ![0, 1, 2] bcast_S28x1x36864_S28x128x36864_0_1_2
        (broadcastInDim S28x1x36864 ![0, 2] bcast_S28x36864_S28x1x36864_0_2 s)))
    shapeCasts_S28x128x36864_S3584x36864

/-- The reference's result as it composes it from its arguments. -/
abbrev composed (x : FVec Ideal S3x256x7168 .bf16) (w : IVec S3584x36864 8) (s : FVec Ideal S56x36864 .bf16) :
    FVec Ideal S3x256x36864 .bf16 :=
  truncf .bf16
    (addf
      (Host.dotGeneral dot_S3x256x3584_S3584x36864_S3x256x36864_2_0_01_1_n_n none
        (extractStridedSlice S3x256x3584 ![0, 0, 0] x slices_S3x256x7168_S3x256x3584_0_0_0)
        (dequant
          (andi (extui 32 w natLt_8_32) (broadcastInDim S3584x36864 ![] bcast_S_S3584x36864 (constantI S_ 32 15#32)))
          (extractStridedSlice S28x36864 ![0, 0] s slices_S56x36864_S28x36864_0_0)))
      (Host.dotGeneral dot_S3x256x3584_S3584x36864_S3x256x36864_2_0_01_1_n_n none
        (extractStridedSlice S3x256x3584 ![0, 0, 3584] x slices_S3x256x7168_S3x256x3584_0_0_3584)
        (dequant
          (Host.shrsi (extui 32 w natLt_8_32) (broadcastInDim S3584x36864 ![] bcast_S_S3584x36864 (constantI S_ 32 4#32)))
          (extractStridedSlice S28x36864 ![28, 0] s slices_S56x36864_S28x36864_28_0))))
    bitsLt_bf16_f32

/-- The reference's result is the layer of its arguments. -/
theorem composed_eq (x : FVec Ideal S3x256x7168 .bf16) (w : IVec S3584x36864 8) (s : FVec Ideal S56x36864 .bf16) :
    composed x w s = layer x w s := by
  funext i
  pointwise [composed, dequant, layer]
  simp only [reference_lo, reference_hi]

end Cert.ReferenceIdeal.Value

end
-- ==== Proof.lean ====
/-
The certificate: both kernels and the reference terminate with their arguments unchanged, the idealization rewrites nothing, and
over the extended reals the kernel and the reference return the same array. It assembles `Proof/KernelValue.lean` (the array the
kernel returns is the layer) and `Proof/ReferenceValue.lean` (so is the reference's).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.ReferenceValue
public import Idealize.ShloMosaic.Adequacy
public import Idealize.ShloMosaic.Init

@[expose] public section

set_option maxRecDepth 16384

noncomputable section

namespace Cert.Proof

open Idealize.ShloMosaic Idealize.SL.Sem

/-- The kernel ends with its arguments unchanged and every semaphore at zero, at the machine's own words. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference, which declares no semaphore. -/
theorem frame_reference : Cert.quiescent_ReferenceIdeal := by
  intro m g _
  hlo_run
  · exact fun _ => ⟨trivial, trivial, trivial⟩
  · exact sem_eq_zero_of_no_sems (sig := Cert.ReferenceIdeal.sig) (by decide) _

/-- Idealizing the kernel rewrote nothing. -/
theorem preserves : Cert.preserves_Kernel_KernelIdeal := trivial

/-- Over the extended reals the kernel and the reference, from equal arguments, return the same array: the layer. -/
theorem algebraic : Cert.algebraic_KernelIdeal_ReferenceIdeal := by
  pair_intro
  · run_from Cert.KernelIdeal.Gen.run_main m g & Cert.KernelIdeal.Gen.unchanged m g
  · hlo_run
    exact (Cert.ReferenceIdeal.Value.composed_eq _ _ _).trans (Cert.KernelIdeal.Value.result m c).symm

/-- The five claims together. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
